-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S4x4096x2048 : Shape := ⟨3, ![4, 4096, 2048]⟩
abbrev S4x4096 : Shape := ⟨2, ![4, 4096]⟩
abbrev S_ : Shape := ⟨0, ![]⟩
abbrev S4 : Shape := ⟨1, ![4]⟩

class Facts : Prop where
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4x4096x2048 .f32) (main_arg1 : IVec S4x4096 32) : IVec S_ 1 :=
  let main_c : IVec S_ 32 := constantI S_ 32 0#32
  let main_v0 : IVec S4 32 := (fun x v => Host.reduce IntOp.addi x v reducesTo_S4x4096_S4_d1 h_S_) main_arg1 main_c
  let main_c_0 : IVec S_ 32 := constantI S_ 32 1#32
  let main_v1 : IVec S4 32 := broadcastInDim S4 ![] bcast_S_S4 main_c_0
  let main_v2 : IVec S4 1 := cmpi .sge main_v0 main_v1
  let main_c_1 : IVec S_ 32 := constantI S_ 32 4096#32
  let main_v3 : IVec S4 32 := broadcastInDim S4 ![] bcast_S_S4 main_c_1
  let main_v4 : IVec S4 1 := cmpi .sle main_v0 main_v3
  let main_v5 : IVec S4 1 := andi main_v2 main_v4
  let main_c_2 : IVec S_ 1 := constantI S_ 1 1#1
  let main_v6 : IVec S_ 1 := (fun x v => Host.reduce IntOp.andi x v reducesTo_S4_S_d0 h_S_) main_v5 main_c_2
  main_v6
-- ==== Kernel.lean ====
abbrev S4x4096x2048 : Shape := ⟨3, ![4, 4096, 2048]⟩
abbrev S4x4096 : Shape := ⟨2, ![4, 4096]⟩
abbrev S4x2048 : Shape := ⟨2, ![4, 2048]⟩
abbrev S4096 : Shape := ⟨1, ![4096]⟩
abbrev S_ : Shape := ⟨0, ![]⟩
abbrev S1x4096 : Shape := ⟨2, ![1, 4096]⟩
abbrev S16 : Shape := ⟨1, ![16]⟩
abbrev S1 : Shape := ⟨1, ![1]⟩
abbrev S1x512 : Shape := ⟨2, ![1, 512]⟩
abbrev S512 : Shape := ⟨1, ![512]⟩
abbrev S1x1x512 : Shape := ⟨3, ![1, 1, 512]⟩

abbrev nBuf : Table → Nat
  | .hbm => 3
  | .local .scVector .vmem => 1
  | _ => 0

abbrev bufTy : (tb : Table) → Fin (nBuf tb) → BufTy
  | .hbm, ⟨0, _⟩ => ⟨S4x4096x2048, .f32⟩
  | .hbm, ⟨1, _⟩ => ⟨S4x4096, .i32⟩
  | .hbm, ⟨2, _⟩ => ⟨S4x2048, .f32⟩
  | .local .scVector .vmem, ⟨0, _⟩ => ⟨S4096, .i32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32_4 : BitVec 32 := 1#32
  let v17 : BitVec 32 := Scalar.subi v2 c1_i32_4
  let v18 : BitVec 32 := Scalar.select v16 v17 v2
  let c0_i32_17_r0 : BitVec 32 := 0#32
  ![v18.toNat, 0]
@[reducible] def k0_t1_loop : Scf.Loop 32 :=
  let c0_i32_6 : BitVec 32 := 0#32
  let c64_i32 : BitVec 32 := 64#32
  let v20 : BitVec 32 := Scalar.addi c0_i32_6 c64_i32
  let c1_i32_7 : BitVec 32 := 1#32
  ⟨c0_i32_6, v20, c1_i32_7⟩
def k0_off2 (k0_t1 : Fin k0_t1_loop.trips) (c0_i32_18 : BitVec 32) : Fin 1 → Nat :=
  let c0_i32_6 : BitVec 32 := 0#32
  let c1_i32_7 : BitVec 32 := 1#32
  let arg6 : BitVec 32 := Scf.iv c0_i32_6 c1_i32_7 k0_t1
  let c4_i32_17 : BitVec 32 := 4#32
  let v86 : BitVec 32 := Scalar.muli arg6 c4_i32_17
  let c16_i32 : BitVec 32 := 16#32
  let v87 : BitVec 32 := Scalar.muli v86 c16_i32
  let v88 : BitVec 32 := Scalar.addi v87 c0_i32_18
  let v89 : Index := Scalar.indexCast v88
  ![v89.toNat]
def k0_off3 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32_4 : BitVec 32 := 1#32
  let v17 : BitVec 32 := Scalar.subi v2 c1_i32_4
  let v18 : BitVec 32 := Scalar.select v16 v17 v2
  let c4_i32_11 : BitVec 32 := 4#32
  let c0_i32_12 : BitVec 32 := 0#32
  let v75 : BitVec 1 := Scalar.cmpi .eq c4_i32_11 c0_i32_12
  let c1_i32_13 : BitVec 32 := 1#32
  let v76 : BitVec 32 := Scalar.select v75 c1_i32_13 c4_i32_11
  let v77 : BitVec 32 := Scalar.remsi v1 v76
  let c0_i32_15 : BitVec 32 := 0#32
  let v79 : BitVec 1 := Scalar.cmpi .slt v77 c0_i32_15
  let c0_i32_16 : BitVec 32 := 0#32
  let v80 : BitVec 1 := Scalar.cmpi .slt v76 c0_i32_16
  let v81 : BitVec 1 := Scalar.xori v79 v80
  let c0_i32_14 : BitVec 32 := 0#32
  let v78 : BitVec 1 := Scalar.cmpi .ne v77 c0_i32_14
  let v82 : BitVec 1 := Scalar.andi v81 v78
  let v83 : BitVec 32 := Scalar.addi v77 v76
  let v84 : BitVec 32 := Scalar.select v82 v83 v77
  let c512_i32 : BitVec 32 := 512#32
  let v85 : BitVec 32 := Scalar.muli v84 c512_i32
  ![v18.toNat, v85.toNat]
def k0_off4 (i : grid0.Coords) (v26 : BitVec 32) (v28 : BitVec 32) (v31 : BitVec 32) (v34 : BitVec 32) (v37 : BitVec 32) (v40 : BitVec 32) (v43 : BitVec 32) (v46 : BitVec 32) (v49 : BitVec 32) (v52 : BitVec 32) (v55 : BitVec 32) (v58 : BitVec 32) (v61 : BitVec 32) (v64 : BitVec 32) (v67 : BitVec 32) (v70 : BitVec 32) : Fin 3 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32_4 : BitVec 32 := 1#32
  let v17 : BitVec 32 := Scalar.subi v2 c1_i32_4
  let v18 : BitVec 32 := Scalar.select v16 v17 v2
  let c4095_i32 : BitVec 32 := 4095#32
  let c0_i32_10 : BitVec 32 := 0#32
  let v29 : BitVec 32 := Scalar.addi v26 v28
  let v32 : BitVec 32 := Scalar.addi v29 v31
  let v35 : BitVec 32 := Scalar.addi v32 v34
  let v38 : BitVec 32 := Scalar.addi v35 v37
  let v41 : BitVec 32 := Scalar.addi v38 v40
  let v44 : BitVec 32 := Scalar.addi v41 v43
  let v47 : BitVec 32 := Scalar.addi v44 v46
  let v50 : BitVec 32 := Scalar.addi v47 v49
  let v53 : BitVec 32 := Scalar.addi v50 v52
  let v56 : BitVec 32 := Scalar.addi v53 v55
  let v59 : BitVec 32 := Scalar.addi v56 v58
  let v62 : BitVec 32 := Scalar.addi v59 v61
  let v65 : BitVec 32 := Scalar.addi v62 v64
  let v68 : BitVec 32 := Scalar.addi v65 v67
  let v71 : BitVec 32 := Scalar.addi v68 v70
  let c1_i32_9 : BitVec 32 := 1#32
  let v72 : BitVec 32 := Scalar.subi v71 c1_i32_9
  let v73 : BitVec 32 := Scalar.maxsi c0_i32_10 v72
  let v74 : BitVec 32 := Scalar.minsi c4095_i32 v73
  let c4_i32_11 : BitVec 32 := 4#32
  let c0_i32_12 : BitVec 32 := 0#32
  let v75 : BitVec 1 := Scalar.cmpi .eq c4_i32_11 c0_i32_12
  let c1_i32_13 : BitVec 32 := 1#32
  let v76 : BitVec 32 := Scalar.select v75 c1_i32_13 c4_i32_11
  let v77 : BitVec 32 := Scalar.remsi v1 v76
  let c0_i32_15 : BitVec 32 := 0#32
  let v79 : BitVec 1 := Scalar.cmpi .slt v77 c0_i32_15
  let c0_i32_16 : BitVec 32 := 0#32
  let v80 : BitVec 1 := Scalar.cmpi .slt v76 c0_i32_16
  let v81 : BitVec 1 := Scalar.xori v79 v80
  let c0_i32_14 : BitVec 32 := 0#32
  let v78 : BitVec 1 := Scalar.cmpi .ne v77 c0_i32_14
  let v82 : BitVec 1 := Scalar.andi v81 v78
  let v83 : BitVec 32 := Scalar.addi v77 v76
  let v84 : BitVec 32 := Scalar.select v82 v83 v77
  let c512_i32 : BitVec 32 := 512#32
  let v85 : BitVec 32 := Scalar.muli v84 c512_i32
  ![v18.toNat, v74.toNat, v85.toNat]

def k0_chk1 (i : grid0.Coords) (v26 : BitVec 32) (v28 : BitVec 32) (v31 : BitVec 32) (v34 : BitVec 32) (v37 : BitVec 32) (v40 : BitVec 32) (v43 : BitVec 32) (v46 : BitVec 32) (v49 : BitVec 32) (v52 : BitVec 32) (v55 : BitVec 32) (v58 : BitVec 32) (v61 : BitVec 32) (v64 : BitVec 32) (v67 : BitVec 32) (v70 : BitVec 32) : Prop :=
  (∀ a, (k0_off4 i v26 v28 v31 v34 v37 v40 v43 v46 v49 v52 v55 v58 v61 v64 v67 v70) a + S1x1x512.size a ≤ S4x4096x2048.size a)
theorem k0_off4_inb : ∀ (i : grid0.Coords) (v26 : BitVec 32) (v28 : BitVec 32) (v31 : BitVec 32) (v34 : BitVec 32) (v37 : BitVec 32) (v40 : BitVec 32) (v43 : BitVec 32) (v46 : BitVec 32) (v49 : BitVec 32) (v52 : BitVec 32) (v55 : BitVec 32) (v58 : BitVec 32) (v61 : BitVec 32) (v64 : BitVec 32) (v67 : BitVec 32) (v70 : BitVec 32) (k0_hw1 : k0_chk1 i v26 v28 v31 v34 v37 v40 v43 v46 v49 v52 v55 v58 v61 v64 v67 v70), ∀ a, (k0_off4 i v26 v28 v31 v34 v37 v40 v43 v46 v49 v52 v55 v58 v61 v64 v67 v70) a + S1x1x512.size a ≤ S4x4096x2048.size a := fun i v26 v28 v31 v34 v37 v40 v43 v46 v49 v52 v55 v58 v61 v64 v67 v70 k0_hw1 => k0_hw1

def k0_off5 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32_4 : BitVec 32 := 1#32
  let v17 : BitVec 32 := Scalar.subi v2 c1_i32_4
  let v18 : BitVec 32 := Scalar.select v16 v17 v2
  let c4_i32_11 : BitVec 32 := 4#32
  let c0_i32_12 : BitVec 32 := 0#32
  let v75 : BitVec 1 := Scalar.cmpi .eq c4_i32_11 c0_i32_12
  let c1_i32_13 : BitVec 32 := 1#32
  let v76 : BitVec 32 := Scalar.select v75 c1_i32_13 c4_i32_11
  let v77 : BitVec 32 := Scalar.remsi v1 v76
  let c0_i32_15 : BitVec 32 := 0#32
  let v79 : BitVec 1 := Scalar.cmpi .slt v77 c0_i32_15
  let c0_i32_16 : BitVec 32 := 0#32
  let v80 : BitVec 1 := Scalar.cmpi .slt v76 c0_i32_16
  let v81 : BitVec 1 := Scalar.xori v79 v80
  let c0_i32_14 : BitVec 32 := 0#32
  let v78 : BitVec 1 := Scalar.cmpi .ne v77 c0_i32_14
  let v82 : BitVec 1 := Scalar.andi v81 v78
  let v83 : BitVec 32 := Scalar.addi v77 v76
  let v84 : BitVec 32 := Scalar.select v82 v83 v77
  let c512_i32 : BitVec 32 := 512#32
  let v85 : BitVec 32 := Scalar.muli v84 c512_i32
  ![v18.toNat, v85.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S4x4096 : Shape := ⟨2, ![4, 4096]⟩
abbrev S_ : Shape := ⟨0, ![]⟩
abbrev S4 : Shape := ⟨1, ![4]⟩
abbrev S4x1 : Shape := ⟨2, ![4, 1]⟩
abbrev S4x1x1 : Shape := ⟨3, ![4, 1, 1]⟩
abbrev S1 : Shape := ⟨1, ![1]⟩
abbrev S1x1x1 : Shape := ⟨3, ![1, 1, 1]⟩
abbrev S4x1x2048 : Shape := ⟨3, ![4, 1, 2048]⟩
abbrev S4x2048 : Shape := ⟨2, ![4, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S_, .i32⟩
  | .hbm, ⟨3, _⟩ => ⟨S4, .i32⟩
  | .hbm, ⟨4, _⟩ => ⟨S4x1, .i32⟩
  | .hbm, ⟨5, _⟩ => ⟨S_, .i32⟩
  | .hbm, ⟨6, _⟩ => ⟨S4x1, .i32⟩
  | .hbm, ⟨7, _⟩ => ⟨S4x1, .i32⟩
  | .hbm, ⟨8, _⟩ => ⟨S4x1x1, .i32⟩
  | .hbm, ⟨9, _⟩ => ⟨S_, .i32⟩
  | .hbm, ⟨10, _⟩ => ⟨S4x1x1, .i32⟩
  | .hbm, ⟨11, _⟩ => ⟨S4x1x1, .i1⟩
  | .hbm, ⟨12, _⟩ => ⟨S_, .i32⟩
  | .hbm, ⟨13, _⟩ => ⟨S4x1x1, .i32⟩
  | .hbm, ⟨14, _⟩ => ⟨S4x1x1, .i32⟩
  | .hbm, ⟨15, _⟩ => ⟨S4x1x1, .i32⟩
  | .hbm, ⟨16, _⟩ => ⟨S1, .i32⟩
  | .hbm, ⟨17, _⟩ => ⟨S_, .i32⟩
  | .hbm, ⟨18, _⟩ => ⟨S4x1x1, .i32⟩
  | .hbm, ⟨19, _⟩ => ⟨S4x1x1, .i1⟩
  | .hbm, ⟨20, _⟩ => ⟨S1x1x1, .i32⟩
  | .hbm, ⟨21, _⟩ => ⟨S4x1x1, .i32⟩
  | .hbm, ⟨22, _⟩ => ⟨S4x1x1, .i1⟩
  | .hbm, ⟨23, _⟩ => ⟨S4x1x1, .i1⟩
  | .hbm, ⟨24, _⟩ => ⟨S_, .i1⟩
  | .hbm, ⟨25, _⟩ => ⟨S4x1, .i1⟩
  | .hbm, ⟨26, _⟩ => ⟨S4x1x2048, .f32⟩
  | .hbm, ⟨27, _⟩ => ⟨S4x1x2048, .i1⟩
  | .hbm, ⟨28, _⟩ => ⟨S_, .f32⟩
  | .hbm, ⟨29, _⟩ => ⟨S4x1x2048, .f32⟩
  | .hbm, ⟨30, _⟩ => ⟨S4x1x2048, .f32⟩
  | .hbm, ⟨31, _⟩ => ⟨S4x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]
-- ==== Proof.Values.lean ====
/-
  What the pooled row is, as arithmetic on the two arguments, away from any program: the total of a row of the mask in
  wrapping 32-bit words, how sixteen lanes of four accumulators build it up over 64 trips, the position it selects, and
  the array of selected rows.
-/
module

public import Idealize.ShloMosaic.PureOps
public import Idealize.ShloMosaic.Lib.ValueIdxCore
public import Mathlib.Data.BitVec
public import Mathlib.Algebra.BigOperators.Intervals

@[expose] public section

noncomputable section

namespace Cert.Proof.Pool

open Idealize.ShloMosaic Idealize.ShloMosaic.ValueIdx

/-- The shapes of the two arguments, of the result, of one row of the mask and of a register's lanes. -/
abbrev SIn : Shape := ⟨3, ![4, 4096, 2048]⟩
abbrev SMask : Shape := ⟨2, ![4, 4096]⟩
abbrev SOut : Shape := ⟨2, ![4, 2048]⟩
abbrev SRow : Shape := ⟨1, ![4096]⟩
abbrev SLane : Shape := ⟨1, ![16]⟩

/-- Row `b` of the mask. -/
def maskRow (mk : IVec SMask 32) (b : Fin 4) : IVec SRow 32 := fun y => mk (ix2 b ⟨(y 0).val, (y 0).isLt⟩)

/-- Word `n` of a row, zero past its end. -/
def word (row : IVec SRow 32) (n : ℕ) : BitVec 32 := if h : n < 4096 then row (ix1 ⟨n, h⟩) else 0

/-- The total of a row's 4096 words, wrapping. -/
def total (row : IVec SRow 32) : BitVec 32 := ∑ n ∈ Finset.range 4096, word row n

/-- Accumulator `r` after `k` trips: lane `l` has taken words `64 t + 16 r + l` for `t < k`. -/
def accum (row : IVec SRow 32) (r k : ℕ) : IVec SLane 32 :=
  fun l => ∑ t ∈ Finset.range k, word row (64 * t + 16 * r + (l 0).val)

/-- The position a row of total `w` selects: `w - 1`, kept between 0 and 4095 (signed). -/
def position (w : BitVec 32) : BitVec 32 := Scalar.minsi 4095#32 (Scalar.maxsi 0#32 (Scalar.subi w 1#32))

/-- A selected position is a row of the input. -/
theorem position_lt (w : BitVec 32) : (position w).toNat < 4096 := by
  unfold position Scalar.minsi Scalar.maxsi Scalar.subi
  simp only [IntOp.minsi, IntOp.maxsi, BitVec.slt_eq_decide, BitVec.sle_eq_decide, BitVec.toInt_eq_toNat_cond]
  split_ifs <;> simp_all <;> omega

/-- The result: entry `(b, j)` is the input at batch `b`, at the position that row `b` of the mask selects, column `j`. -/
def pooled {α : Type} (x : SIn.Idx → α) (mk : IVec SMask 32) : SOut.Idx → α :=
  fun j => x (ix3 ⟨(j 0).val, (j 0).isLt⟩ ⟨(position (total (maskRow mk ⟨(j 0).val, (j 0).isLt⟩))).toNat, position_lt _⟩ ⟨(j 1).val, (j 1).isLt⟩)

theorem accum_zero (row : IVec SRow 32) (r : ℕ) : accum row r 0 = fun _ => 0#32 := rfl

/-- One trip adds the trip's word to every lane. -/
theorem accum_succ (row : IVec SRow 32) (r k : ℕ) (l : SLane.Idx) :
    accum row r (k + 1) l = accum row r k l + word row (64 * k + 16 * r + (l 0).val) := Finset.sum_range_succ _ _

/-- Lane `l` of the four accumulators after the 64 trips, added as the kernel adds them. -/
def lane (row : IVec SRow 32) (l : Fin 16) : BitVec 32 :=
  (accum row 0 64 (ix1 l) + accum row 1 64 (ix1 l)) + (accum row 2 64 (ix1 l) + accum row 3 64 (ix1 l))

/-- The sixteen lanes add up to the row's total: each word of the row is in exactly one lane of one accumulator. -/
theorem sum_lane (row : IVec SRow 32) : ∑ l : Fin 16, lane row l = total row := by
  have cut : ∀ (a b : ℕ) (f : ℕ → BitVec 32),
      ∑ n ∈ Finset.range (a * b), f n = ∑ t ∈ Finset.range a, ∑ s ∈ Finset.range b, f (b * t + s) := by
    intro a b f
    induction a with
    | zero => simp
    | succ a ih => rw [Nat.succ_mul, Finset.sum_range_add, ih, Finset.sum_range_succ, Nat.mul_comm a b]
  have h := cut 64 64 (word row)
  have h2 : ∀ t, ∑ s ∈ Finset.range 64, word row (64 * t + s)
      = ∑ r ∈ Finset.range 4, ∑ l ∈ Finset.range 16, word row (64 * t + 16 * r + l) := by
    intro t
    rw [cut 4 16 fun s => word row (64 * t + s)]
    simp only [Nat.add_assoc]
  have h3 : total row = ∑ l ∈ Finset.range 16, ∑ r ∈ Finset.range 4, ∑ t ∈ Finset.range 64, word row (64 * t + 16 * r + l) := by
    unfold total
    rw [show (4096 : ℕ) = 64 * 64 from rfl, h]
    simp only [h2]
    rw [Finset.sum_comm]
    simp only [fun r : ℕ => Finset.sum_comm (s := Finset.range 64) (t := Finset.range 16) (f := fun t l => word row (64 * t + 16 * r + l))]
    rw [Finset.sum_comm]
  rw [h3, ← Fin.sum_univ_eq_sum_range (fun l => ∑ r ∈ Finset.range 4, ∑ t ∈ Finset.range 64, word row (64 * t + 16 * r + l)) 16]
  have four : ∀ S : ℕ → BitVec 32, (S 0 + S 1) + (S 2 + S 3) = ∑ r ∈ Finset.range 4, S r := by
    intro S
    rw [Finset.sum_range_succ, Finset.sum_range_succ, Finset.sum_range_succ, Finset.sum_range_one, add_assoc (S 0 + S 1)]
  exact Finset.sum_congr rfl fun l _ => four fun r => accum row r 64 (ix1 l)

end Cert.Proof.Pool

end
-- ==== Proof.Setup.lean ====
/-
  The idealized kernel as the SparseCore launch theorem sees it: its configuration, the resource algebra, its buffers,
  and what the one call carries to the sixteen tiles and back. Every tile reads the whole input and the whole mask (a
  read share of each) and owns its own block of the result, 512 columns of one row, which it hands back holding the
  pooled rows.
-/
module

public import proofs.«01_k».proof.Defs
public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the configuration: its handshake semaphores are distinct and none is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

variable (m : (ℓ : Loc nD τ sig) → Buf (Elt F) ℓ) (ρ : Dev nD → PrngReg)

/-- The input, the mask and the result on device `d`. -/
abbrev xLoc (d : Dev nD) : Loc nD τ sig := (SparseCore.T d).loc main_arg0
abbrev kLoc (d : Dev nD) : Loc nD τ sig := (SparseCore.T d).loc main_arg1
abbrev oLoc (d : Dev nD) : Loc nD τ sig := (SparseCore.T d).loc main_v0

local notation "xV" => (Memref.whole Cert.KernelIdeal.main_arg0_scv : Memref Cert.KernelIdeal.sig Kind.scVector Space.hbm Cert.KernelIdeal.S4x4096x2048 EltTy.f32)
local notation "kV" => (Memref.whole Cert.KernelIdeal.main_arg1_scv : Memref Cert.KernelIdeal.sig Kind.scVector Space.hbm Cert.KernelIdeal.S4x4096 EltTy.i32)
local notation "oV" => (Memref.whole Cert.KernelIdeal.main_v0_scv : Memref Cert.KernelIdeal.sig Kind.scVector Space.hbm Cert.KernelIdeal.S4x2048 EltTy.f32)

/-- What the launch memory makes the result hold: the rows of the input that the mask selects. -/
def result (d : Dev nD) : Buf (Elt F) (oLoc d) := pooled (m (xLoc d)) (m (kLoc d))

/-! ## The blocks of the result -/

theorem blk_inb (i : Fin 16) : ∀ a, (![i.val / 4, 512 * (i.val % 4)] : Fin 2 → ℕ) a + S1x512.size a ≤ S4x2048.size a := by
  revert i; decide

/-- Block `i` of the result: row `i / 4`, the 512 columns from `512 (i % 4)`. -/
abbrev blk (i : Fin 16) : Rect S4x2048 := Rect.unit (s := S4x2048) ![i.val / 4, 512 * (i.val % 4)] S1x512.size (blk_inb i)
abbrev blkSet (i : Fin 16) : Finset S4x2048.Idx := ((oV).view.slice (blk i)).set

theorem blkSet_eq (i : Fin 16) : blkSet i = (blk i).set := by
  show ((View.whole (main_v0_scv : Ref sig .scVector)).slice (blk i)).set = _
  rw [View.set_slice]; exact Finset.map_refl

/-- An element lies in block `i` when its row and its column's group of 512 say so. -/
theorem mem_blkSet (i : Fin 16) (y : S4x2048.Idx) : y ∈ blkSet i ↔ i.val = 4 * (y 0).val + (y 1).val / 512 := by
  have h0 : (y 0).val < 4 := (y 0).isLt
  have h1 : (y 1).val < 2048 := (y 1).isLt
  have hi := i.isLt
  rw [blkSet_eq, Rect.mem_set_unit, Fin.forall_fin_two]
  show (i.val / 4 ≤ (y 0).val ∧ (y 0).val < i.val / 4 + 1) ∧ (512 * (i.val % 4) ≤ (y 1).val ∧ (y 1).val < 512 * (i.val % 4) + 512) ↔ _
  omega

theorem blks_disjoint : ∀ i ∈ (Finset.univ : Finset (Fin 16)), ∀ j ∈ (Finset.univ : Finset (Fin 16)), i ≠ j → Disjoint (blkSet i) (blkSet j) :=
  fun i _ j _ h => Finset.disjoint_left.mpr fun y hi hj =>
    h (Fin.ext (((mem_blkSet i y).mp hi).trans ((mem_blkSet j y).mp hj).symm))

theorem blks_cover : (Finset.univ : Finset (Fin 16)).biUnion blkSet = Finset.univ := by
  ext y
  have h0 : (y 0).val < 4 := (y 0).isLt
  have h1 : (y 1).val < 2048 := (y 1).isLt
  simp only [Finset.mem_biUnion, Finset.mem_univ, true_and, iff_true]
  exact ⟨⟨4 * (y 0).val + (y 1).val / 512, by omega⟩, (mem_blkSet _ y).mpr rfl⟩

/-! ## What the handshakes carry -/

variable [FloatOps F]

/-- Tile `i`'s read share of an array that all sixteen tiles read. -/
abbrev tok (i : Fin 16) : PosShare TreeShare := Transfers.shareTok fullShare 16 i

abbrev xPts (d : Dev nD) : sProp 𝕄 := xLoc d ↦{fullShare} m (xLoc d)
abbrev kPts (d : Dev nD) : sProp 𝕄 := kLoc d ↦{fullShare} m (kLoc d)
abbrev oPts (d : Dev nD) (f : Buf (Elt F) (oLoc d)) : sProp 𝕄 := oLoc d ↦{fullShare} f
abbrev xShPts (d : Dev nD) (i : Fin 16) : sProp 𝕄 := xLoc d ↦{tok i} m (xLoc d)
abbrev kShPts (d : Dev nD) (i : Fin 16) : sProp 𝕄 := kLoc d ↦{tok i} m (kLoc d)
abbrev oBlkPts (d : Dev nD) (i : Fin 16) (f : Buf (Elt F) (oLoc d)) : sProp 𝕄 := oLoc d ↦[blkSet i]{fullShare} f

/-- The one call takes the input, the mask and the result whole; each tile a read share of the first two and its block of
    the result, which it brings back holding the pooled rows. -/
def P : (K (F := F)).Pay (nD := nD) (Val := Elt F) (Name := ℕ) (U := UU) where
  st := fun q d _ => match q with | 0 => iprop(xPts m d ∗ kPts m d ∗ oPts d (m (oLoc d)))
  dn := fun q d _ => match q with | 0 => iprop(xPts m d ∗ kPts m d ∗ oPts d (result m d))
  go := fun q d _ i => match q with
    | 0 => iprop(xShPts m d (Fin.cast nSub_zero i) ∗ kShPts m d (Fin.cast nSub_zero i) ∗ oBlkPts d (Fin.cast nSub_zero i) (m (oLoc d)))
  td := fun q d _ i => match q with
    | 0 => iprop(xShPts m d (Fin.cast nSub_zero i) ∗ kShPts m d (Fin.cast nSub_zero i) ∗ oBlkPts d (Fin.cast nSub_zero i) (result m d))
  x := fun _ _ => iprop(emp)

instance P_storable : (P (F := F) m).IsStorable where
  st q d _ := match q with
    | 0 => (inferInstance : BI.Storable (upEmb : UEmb _ 𝕄) iprop(xPts m d ∗ kPts m d ∗ oPts d (m (oLoc d))))
  dn q d _ := match q with
    | 0 => (inferInstance : BI.Storable (upEmb : UEmb _ 𝕄) iprop(xPts m d ∗ kPts m d ∗ oPts d (result m d)))
  go q d _ i := match q with
    | 0 => (inferInstance : BI.Storable (upEmb : UEmb _ 𝕄)
      iprop(xShPts m d (Fin.cast nSub_zero i) ∗ kShPts m d (Fin.cast nSub_zero i) ∗ oBlkPts d (Fin.cast nSub_zero i) (m (oLoc d))))
  td q d _ i := match q with
    | 0 => (inferInstance : BI.Storable (upEmb : UEmb _ 𝕄)
      iprop(xShPts m d (Fin.cast nSub_zero i) ∗ kShPts m d (Fin.cast nSub_zero i) ∗ oBlkPts d (Fin.cast nSub_zero i) (result m d)))

end Cert.Proof.Pool

end
-- ==== Proof.Reads.lean ====
/-
  What one tile reads and computes, apart from its run: where its copies start, what the fetched mask row holds, what a
  trip of the loop adds to the four accumulators, what the sixteen lanes' sum is, and what the last copy writes.
-/
module

public import proofs.«01_k».proof.Proof.Setup
public import Idealize.ShloMosaic.Lib.Pipeline.Value

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S4x4096x2048 EltTy.f32)
local notation "kV" => (Memref.whole Cert.KernelIdeal.main_arg1_scv : Memref Cert.KernelIdeal.sig Kind.scVector Space.hbm Cert.KernelIdeal.S4x4096 EltTy.i32)
local notation "oV" => (Memref.whole Cert.KernelIdeal.main_v0_scv : Memref Cert.KernelIdeal.sig Kind.scVector Space.hbm Cert.KernelIdeal.S4x2048 EltTy.f32)
local notation "sV" => (Memref.whole Cert.KernelIdeal.cc0_scratch0 : Memref Cert.KernelIdeal.sig Kind.scVector Space.vmem Cert.KernelIdeal.S4096 EltTy.i32)

variable (m : (ℓ : Loc nD τ sig) → Buf (Elt F) ℓ) (d : Dev nD) (L : grid0.Coords)

/-! ## The tile's coordinates -/

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

theorem off1_eq : ∀ L : grid0.Coords, k0_off1 L = ![(L 1).val / 4, 0] := by decide +kernel
theorem off3_eq : ∀ L : grid0.Coords, k0_off3 L = ![(L 1).val / 4, 512 * ((L 1).val % 4)] := by decide +kernel

/-- The tile's block of the result, squeezed, as the tile addresses it. -/
abbrev oBlkK (L : grid0.Coords) : Memref sig .scVector .hbm S512 .f32 :=
  ((oV).slice (Rect.unit (s := S4x2048) (k0_off3 L) S1x512.size (k0_off3_inb L)) (fun _ => rfl)).squeeze S512 squeezes_S1x512_S512

theorem blkK_eq : Rect.unit (s := S4x2048) (k0_off3 L) S1x512.size (k0_off3_inb L) = blk (jL L) := by
  congr 1; exact off3_eq L

theorem set_oBlkK : (oBlkK L).view.set = blkSet (jL L) := by
  show (((oV).view.slice (Rect.unit (s := S4x2048) (k0_off3 L) S1x512.size (k0_off3_inb L))).reshape S512 squeezes_S1x512_S512.numel_eq).set = ((oV).view.slice (blk (jL L))).set
  rw [View.set_reshape]
  exact blkK_eq L ▸ rfl

theorem pts_oBlkK (f : Buf (Elt F) (oLoc d)) :
    ((oBlkK L).view.loc (V d (cV L) (jV L)) ↦[(oBlkK L).view.set]{fullShare} f : sProp 𝕄) = oLoc d ↦[blkSet (jL L)]{fullShare} f := by
  rw [set_oBlkK]
theorem pts_xV (q : PosShare TreeShare) (f : Buf (Elt F) (xLoc d)) :
    ((xV).view.loc (V d (cV L) (jV L)) ↦{q} f : sProp 𝕄) = xLoc d ↦{q} f := rfl
theorem pts_kV (q : PosShare TreeShare) (f : Buf (Elt F) (kLoc d)) :
    ((kV).view.loc (V d (cV L) (jV L)) ↦{q} f : sProp 𝕄) = kLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

/-- The row of the mask that the tile adds up. -/
abbrev row : IVec SRow 32 := maskRow (m (kLoc d)) ⟨(L 1).val / 4, by have := (jL L).isLt; simp only [Fin.val_cast] at this; omega⟩

variable [FloatOps F]

/-! ## The mask row in the scratch -/

abbrev kRowK (L : grid0.Coords) : Memref sig .scVector .hbm S4096 .i32 :=
  ((kV).slice (Rect.unit (s := S4x4096) (k0_off1 L) S1x4096.size (k0_off1_inb L)) (fun _ => rfl)).squeeze S4096 squeezes_S1x4096_S4096

/-- The fetch reads the tile's row of the mask. -/
theorem row_read : (kRowK L).view.read (Elt F) (m (kLoc d)) = row m d L := by
  rw [Memref.read_squeeze_slice (hc := (squeezes_S1x4096_S4096).numel_eq)]
  funext y
  refine (shapeCast_apply (s := S1x4096) _ _ y (ix2 0 (y 0)) (by
    rw [Shape.rowMajor_val_two, Shape.rowMajor_val_one]; show 0 * 4096 + (y 0).val = (y 0).val; omega)).trans ?_
  rw [View.readAt_apply]
  show m (kLoc d) _ = m (kLoc d) _
  congr 1; funext a; apply Fin.ext
  have h0 : k0_off1 L 0 = (L 1).val / 4 := congrFun (off1_eq L) 0
  have h1 : k0_off1 L 1 = 0 := congrFun (off1_eq L) 1
  match a with
  | 0 => show k0_off1 L 0 + 1 * 0 = (L 1).val / 4; omega
  | 1 => show k0_off1 L 1 + 1 * (y 0).val = (y 0).val; omega

/-! ## One trip of the loop -/

/-- The load at word `o` of the row's buffer reads words `o … o + 15` of the row. -/
theorem load_word (w : IVec SRow 32) (off : Fin 1 → ℕ) (inb : ∀ a, off a + S16.size a ≤ S4096.size a) (o : ℕ) (ho : off = ![o]) (l : S16.Idx) :
    (sV).view.readAt (Elt F) (Rect.unit (s := S4096) off S16.size inb).toLoadRect w l = word w (o + (l 0).val) := by
  subst ho
  have hl : o + (l 0).val < 4096 := by
    have h1 : o + 16 ≤ 4096 := inb 0
    have h2 : (l 0).val < 16 := (l 0).isLt
    omega
  rw [word, dif_pos hl, View.readAt_apply]
  show w _ = w _
  congr 1; funext a; apply Fin.ext
  match a with
  | 0 => show o + 1 * (l 0).val = o + (l 0).val; omega

/-- What trip `k` leaves in accumulator `r`: the words it loads, added lane by lane. -/
theorem trip (w : IVec SRow 32) (r k : ℕ) (v : IVec S16 32) (hv : ∀ l : S16.Idx, v l = word w (64 * k + 16 * r + (l 0).val)) :
    addi (accum w r k : IVec S16 32) (shapeCast S16 v shapeCasts_S16_S16) = accum w r (k + 1) := by
  rw [shapeCast_self]
  funext l
  rw [accum_succ]
  show _ + v l = _
  rw [hv]

/-! ## The sixteen lanes and the position -/

/-- The sixteen lanes added in order are the row's total. -/
theorem add_lanes (w : IVec SRow 32) :
    lane w 0 + lane w 1 + lane w 2 + lane w 3 + lane w 4 + lane w 5 + lane w 6 + lane w 7 + lane w 8 + lane w 9 + lane w 10
      + lane w 11 + lane w 12 + lane w 13 + lane w 14 + lane w 15 = total w := by
  rw [← sum_lane]
  simp only [Fin.sum_univ_succ, Fin.sum_univ_zero, add_zero, add_assoc]; rfl

/-- Where the last copy reads: the tile's batch, the position its row selects, its 512 columns. -/
theorem off4_eq (w : IVec SRow 32) :
    k0_off4 L (lane w 0) (lane w 1) (lane w 2) (lane w 3) (lane w 4) (lane w 5) (lane w 6) (lane w 7) (lane w 8) (lane w 9) (lane w 10)
      (lane w 11) (lane w 12) (lane w 13) (lane w 14) (lane w 15)
      = ![(L 1).val / 4, (position (total w)).toNat, 512 * ((L 1).val % 4)] := by
  rw [← add_lanes]
  have h := off3_eq L
  have h0 : k0_off3 L 0 = (L 1).val / 4 := by rw [h]; rfl
  have h1 : k0_off3 L 1 = 512 * ((L 1).val % 4) := by rw [h]; rfl
  rw [← h0, ← h1]; rfl

/-! ## The last copy -/

/-- What the last copy carries: 512 words of the selected row of the input. -/
theorem x_read (off : Fin 3 → ℕ) (inb : ∀ a, off a + S1x1x512.size a ≤ S4x4096x2048.size a) (p : ℕ) (hp : p < 4096)
    (ho : off = ![(L 1).val / 4, p, 512 * ((L 1).val % 4)]) (hs) (y : S512.Idx) :
    (((xV).slice (Rect.unit (s := S4x4096x2048) off S1x1x512.size inb) hs).squeeze S512 squeezes_S1x1x512_S512).view.read (Elt F) (m (xLoc d)) y
      = m (xLoc d) (ix3 ⟨(L 1).val / 4, by have := (jL L).isLt; simp only [Fin.val_cast] at this; omega⟩ ⟨p, hp⟩
          ⟨512 * ((L 1).val % 4) + (y 0).val, by have h : (y 0).val < 512 := (y 0).isLt; omega⟩) := by
  subst ho
  rw [Memref.read_squeeze_slice (hc := (squeezes_S1x1x512_S512).numel_eq)]
  refine (shapeCast_apply (s := S1x1x512) _ _ y (ix3 0 0 (y 0)) (by
    rw [Shape.rowMajor_val_three, Shape.rowMajor_val_one]; show (0 * 1 + 0) * 512 + (y 0).val = (y 0).val; omega)).trans ?_
  rw [View.readAt_apply]
  show m (xLoc d) _ = m (xLoc d) _
  congr 1; funext a; apply Fin.ext
  match a with
  | 0 => show (L 1).val / 4 + 1 * 0 = (L 1).val / 4; omega
  | 1 => show p + 1 * 0 = p; omega
  | 2 => show 512 * ((L 1).val % 4) + 1 * (y 0).val = 512 * ((L 1).val % 4) + (y 0).val; omega

/-- Word `y` of the tile's block of the result is entry `(b, 512 c + y)` of the result. -/
theorem o_read (g : Buf (Elt F) (oLoc d)) (y : S512.Idx) :
    (oBlkK L).view.read (Elt F) g y
      = g (ix2 ⟨(L 1).val / 4, by have := (jL L).isLt; simp only [Fin.val_cast] at this; omega⟩
          ⟨512 * ((L 1).val % 4) + (y 0).val, by have h : (y 0).val < 512 := (y 0).isLt; omega⟩) := by
  rw [Memref.read_squeeze_slice (hc := (squeezes_S1x512_S512).numel_eq)]
  refine (shapeCast_apply (s := S1x512) _ _ y (ix2 0 (y 0)) (by
    rw [Shape.rowMajor_val_two, Shape.rowMajor_val_one]; show 0 * 512 + (y 0).val = (y 0).val; omega)).trans ?_
  rw [View.readAt_apply]
  show g _ = g _
  congr 1; funext a; apply Fin.ext
  have h0 : k0_off3 L 0 = (L 1).val / 4 := congrFun (off3_eq L) 0
  have h1 : k0_off3 L 1 = 512 * ((L 1).val % 4) := congrFun (off3_eq L) 1
  match a with
  | 0 => show k0_off3 L 0 + 1 * 0 = (L 1).val / 4; omega
  | 1 => show k0_off3 L 1 + 1 * (y 0).val = 512 * ((L 1).val % 4) + (y 0).val; omega

/-- The last copy leaves the pooled row's 512 words in the tile's block. -/
theorem block_written (f : Buf (Elt F) (oLoc d)) (off : Fin 3 → ℕ) (inb : ∀ a, off a + S1x1x512.size a ≤ S4x4096x2048.size a)
    (ho : off = ![(L 1).val / 4, (position (total (row m d L))).toNat, 512 * ((L 1).val % 4)]) (hs) :
    ∀ j ∈ blkSet (jL L), View.write (Elt F) (oBlkK L).view f
      ((((xV).slice (Rect.unit (s := S4x4096x2048) off S1x1x512.size inb) hs).squeeze S512 squeezes_S1x1x512_S512).view.read (Elt F) (m (xLoc d)))
      Finset.univ j = result m d j := by
  intro j hj
  rw [← set_oBlkK] at hj
  obtain ⟨y, -, rfl⟩ := Finset.mem_map.mp hj
  have hread := o_read d L (result m d) y
  rw [View.read_apply, cast_eq] at hread
  refine (View.write_emb_of_mem _ _ (Finset.mem_univ y)).trans ?_
  rw [cast_eq]
  refine Eq.trans ?_ hread.symm
  rw [x_read m d L off inb _ (position_lt _) ho hs y]
  rfl

end Cert.Proof.Pool

end
-- ==== Proof.Tile.lean ====
/-
  One tile of the kernel: it fetches row `i / 4` of the mask, adds its 4096 words up in four strands of sixteen lanes, and
  copies 512 words of the selected row of the input to its block of the result.
-/
module

public import proofs.«01_k».proof.Proof.Reads

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "xV" => (Memref.whole Cert.KernelIdeal.main_arg0_scv : Memref Cert.KernelIdeal.sig Kind.scVector Space.hbm Cert.KernelIdeal.S4x4096x2048 EltTy.f32)
local notation "kV" => (Memref.whole Cert.KernelIdeal.main_arg1_scv : Memref Cert.KernelIdeal.sig Kind.scVector Space.hbm Cert.KernelIdeal.S4x4096 EltTy.i32)
local notation "oV" => (Memref.whole Cert.KernelIdeal.main_v0_scv : Memref Cert.KernelIdeal.sig Kind.scVector Space.hbm Cert.KernelIdeal.S4x2048 EltTy.f32)
local notation "sV" => (Memref.whole Cert.KernelIdeal.cc0_scratch0 : Memref Cert.KernelIdeal.sig Kind.scVector Space.vmem Cert.KernelIdeal.S4096 EltTy.i32)

variable (m : (ℓ : Loc nD τ sig) → Buf (Elt F) ℓ) (d : Dev nD) (L : grid0.Coords)

/-- The cells of the tile's two DMA semaphores. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

/-- The two semaphores are among the tile's own, all at zero. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

/-- The mask row's buffer is among the tile's own, at some contents. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

variable [FloatOps F]

/-- After `k` trips each strand holds the sums of its sixteen lanes so far, and the fetched row is still in the scratch. -/
def inv (f : Buf (Elt F) ((V d (cV L) (jV L)).loc cc0_scratch0)) (k : ℕ)
    (a : IVec S16 32 × IVec S16 32 × IVec S16 32 × IVec S16 32) : sProp 𝕄 :=
  iprop(⌜a = (accum (row m d L) 0 k, accum (row m d L) 1 k, accum (row m d L) 2 k, accum (row m d L) 3 k)⌝
    ∗ (sV).view.loc (V d (cV L) (jV L)) ↦{fullShare} f)

set_option maxHeartbeats 4000000 in
/-- One tile's run, from its shares of the input and the mask and its block of the result: it ends with both shares back, its
    block holding the selected row's words, its scratch and semaphores as they were lent, and owing nothing new. -/
theorem tile_body (hF : (K (F := F)).Facts) (O : CellTallies nD τ sig (HIx 1)) (W : Waits sig (HIx 1)) (hO : ∀ g, O g none = 0) :
    iprop(levAts (K (F := F)).L (K (F := F)).lev ∗ emp
        ∗ (xShPts m d (jL L) ∗ kShPts m d (jL L) ∗ oBlkPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pool_body L xV (Memref.isWhole_whole _) kV (Memref.isWhole_whole _) oV (Memref.isWhole_whole _)
            sV (Memref.isWhole_whole _) cc0_scoped0 cc0_scoped1)
          fun _ => iprop((xShPts m d (jL L) ∗ kShPts m d (jL L) ∗ oBlkPts d (jL L) (result m d))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc0__pool_body_eq_skeleton]; unfold cc0__pool_body_skel
  rw [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hx, Hk, Ho⟩, ⟨⟨%fs, Hs⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oBlkK (F := F) d L _).symm) $$ Ho
  ihave Hx' := (Entails.of_eq (pts_xV (F := F) d L _ _).symm) $$ Hx
  ihave Hk' := (Entails.of_eq (pts_kV (F := F) d L _ _).symm) $$ Hk
  ihave Hs' := (Entails.of_eq (pts_sV (F := F) d L _).symm) $$ Hs
  sl_exec
  -- the scratch now holds the tile's row of the mask
  ihave Hrow := (Entails.of_eq (show ((sV).view.loc (V d (cV L) (jV L)) ↦{fullShare} View.write (Elt F) (sV).view fs (tile_body.sl.dma0 m d L) Finset.univ : sProp 𝕄)
      = (sV).view.loc (V d (cV L) (jV L)) ↦{fullShare} row m d L by
    rw [View.write_whole_univ]; exact congrArg _ (row_read m d L))) $$ Hs'
  simp only [Prog.bind_assoc]
  sl_for (inv m d L (row m d L)) $$ [Hrow]
  case region =>
    intro k a
    unfold inv
    iintro ⟨%ha, Hs⟩
    subst ha
    sl_exec
    sl_step
    isplitr
    · ipureintro
      have h (r : Fin 4) (inb) := fun l => load_word (F := F) (row m d L) (k0_off2 k (BitVec.ofNat 32 (16 * r.val))) inb _ (k0_off2_eq k r) l
      exact congr (congrArg Prod.mk (trip _ 0 _ _ (h 0 _)))
        (congr (congrArg Prod.mk (trip _ 1 _ _ (h 1 _))) (congr (congrArg Prod.mk (trip _ 2 _ _ (h 2 _))) (trip _ 3 _ _ (h 3 _))))
    · iexact Hs
  · unfold inv
    isplitr
    · ipureintro; rfl
    · iexact Hrow
  iintro %a HI
  unfold inv
  icases HI with ⟨%ha, Hs'⟩
  subst ha
  sl_exec
  ihave Ho' := (show _ ⊢ ((oBlkK L).view.loc (V d (cV L) (jV L)) ↦[(oBlkK L).view.set]{fullShare} m (oLoc d) : sProp 𝕄) from Entails.rfl) $$ Ho'
  ihave Hx' := (show _ ⊢ ((xV).view.loc (V d (cV L) (jV L)) ↦{tok (jL L)} m (xLoc d) : sProp 𝕄) from Entails.rfl) $$ Hx'
  sl_exec
  sl_step
  -- the block holds the selected row's words
  have hw : ∀ j ∈ blkSet (jL L), (oBlkK L).view.writes (Elt F) (m (oLoc d)) [⟨Rect.whole S512, tile_body.sl.dma0_1 m d L⟩] j = result m d j := by
    rw [← View.write_univ_eq_writes_whole, View.writes_nil]
    exact block_written m d L (m (oLoc d)) _ _ (off4_eq L (row m d L)) _
  ihave Ho' := (Entails.of_eq (pts_oBlkK (F := F) d L _)) $$ Ho'
  ihave Ho' := (Entails.of_eq (pointsTo_congr hw)) $$ Ho'
  isplitl [Hk' Hx' Ho']
  · isplitl [Hx']; · iexact Hx'
    isplitl [Hk']; · iexact Hk'
    iexact Ho'
  isplitl [Hs' Hbufs]
  · isplitl [Hs']; · iexists _; iexact Hs'
    iexact Hbufs
  isplitl [HsemA HsemB Hsems]
  · isplitl [HsemA]; · iexact HsemA
    isplitl [HsemB]; · iexact HsemB
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  exact .inl hp

/-! ## The launch's obligation -/

/-- The tile of SparseCore `c` and subcore `s`. -/
def tileAt (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__pool_body (tileAt c s)
          xV (Memref.isWhole_whole _) kV (Memref.isWhole_whole _) oV (Memref.isWhole_whole _)
          sV (Memref.isWhole_whole _) cc0_scoped0 cc0_scoped1) ⟨⟩ c s := rfl

set_option maxRecDepth 16384 in
/-- Every tile runs from what the call hands it to what it brings back. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_body m d (tileAt ⟨_, hci.1⟩ ⟨_, hci.2⟩) facts O W hO

end Cert.Proof.Pool

end
-- ==== Proof.Launch.lean ====
/-
  The launch: the one call splits the input and the mask into sixteen read shares and the result into its sixteen
  blocks, joins them again, and so every run of the program ends with the result holding the selected rows, the two
  arguments as they were and every semaphore at zero.
-/
module

public import proofs.«01_k».proof.Proof.Tile

@[expose] public section

noncomputable section

namespace Cert.Proof.Pool

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## Sixteen blocks and sixteen shares -/

/-- The result is its sixteen blocks. -/
theorem oPts_blks (d : Dev nD) (f : Buf (Elt F) (oLoc d)) :
    (oLoc d ↦{fullShare} f : sProp 𝕄) = bigSep Finset.univ fun i : Fin 16 => oLoc d ↦[blkSet i]{fullShare} f := by
  rw [← pointsTo_biUnion Finset.univ (ℓ := oLoc d) blkSet blks_disjoint, blks_cover]; try rfl

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_nothing {I : Type} (s : Finset I) : (bigSep s fun _ => iprop(emp)) = (iprop(emp) : sProp 𝕄) := bigSep_emp_const s

variable [FloatOps F]

/-- What the call is given splits into what the tiles take; what they bring back joins into what the call returns. -/
theorem vecSplit : (K (F := F)).VecSplit' (P m) 0 := by
  intro d c
  show iprop(xPts m d ∗ kPts m d ∗ oPts d (m (oLoc d))) ⊢ |={Set.univ}=> iprop(
      (bigSep Finset.univ fun i : Fin ((K (F := F)).nSub 0) =>
        iprop(xShPts m d (Fin.cast nSub_zero i) ∗ kShPts m d (Fin.cast nSub_zero i) ∗ oBlkPts d (Fin.cast nSub_zero i) (m (oLoc d))))
      ∗ ((bigSep Finset.univ fun i : Fin ((K (F := F)).nSub 0) =>
          iprop(xShPts m d (Fin.cast nSub_zero i) ∗ kShPts m d (Fin.cast nSub_zero i) ∗ oBlkPts d (Fin.cast nSub_zero i) (result m d)))
          -∗ iprop(xPts m d ∗ kPts m d ∗ oPts d (result m d))))
  rw [bigSep_tiles (F := F) (fun i => iprop(xShPts m d i ∗ kShPts m d i ∗ oBlkPts d i (m (oLoc d)))),
    bigSep_tiles (F := F) (fun i => iprop(xShPts m d i ∗ kShPts m d i ∗ oBlkPts d i (result m d))), bigSep_sep', bigSep_sep', bigSep_sep', bigSep_sep']
  unfold oPts
  rw [oPts_blks, oPts_blks]
  iintro ⟨Hx, Hk, Ho⟩
  ihave Hx := (Transfers.pointsTo_toks_split fullShare 16) $$ Hx
  icases Hx with ⟨Hxd, Hx⟩
  ihave Hk := (Transfers.pointsTo_toks_split fullShare 16) $$ Hk
  icases Hk with ⟨Hkd, Hk⟩
  imodintro
  isplitl [Hx Hk Ho]
  · isplitl [Hx]; · iexact Hx
    isplitl [Hk]; · iexact Hk
    iexact Ho
  iintro ⟨Hx, Hk, Ho⟩
  isplitl [Hxd Hx]
  · iapply (Transfers.pointsTo_toks_join fullShare 16)
    isplitl [Hxd]; · iexact Hxd
    iexact Hx
  isplitl [Hkd Hk]
  · iapply (Transfers.pointsTo_toks_join fullShare 16)
    isplitl [Hkd]; · iexact Hkd
    iexact Hk
  iexact Ho

/-! ## The program on the TensorCore -/

/-- The launch's ghost state: the handshakes' tokens. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

theorem unscopedBufs_eq (d : Dev nD) (W : (b : Ref sig .tc) → Buf (Elt F) ((d.tc : Thread nD τ).loc b)) :
    (unscopedBufs d W : sProp 𝕄) = iprop((xLoc d ↦{fullShare} W main_arg0) ∗ (kLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st0_eq (d : Dev nD) : (bigSep Finset.univ fun c : Fin ((K (F := F)).nCore 0) => (P m).st 0 d c) = iprop(xPts m d ∗ kPts m d ∗ oPts d (m (oLoc d))) :=
  bigSep_univ_of_subsingleton (0 : Fin 1)
theorem dn0_eq (d : Dev nD) : (bigSep Finset.univ fun c : Fin ((K (F := F)).nCore 0) => (P m).dn 0 d c) = iprop(xPts m d ∗ kPts m d ∗ oPts d (result m d)) :=
  bigSep_univ_of_subsingleton (0 : Fin 1)

/-- What the program ends with: the arguments as they were, the result holding the selected rows. -/
abbrev FIN (d : Dev nD) : sProp 𝕄 := iprop(xPts m d ∗ kPts m d ∗ oPts d (result m d))

/-- The program on device `d`'s TensorCore is the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hargs, Hts, -⟩, -⟩
  iapply ((K (F := F)).wp_run (D (F := F)) 𝒱 (EH := EH) (P := P m) κ d 0) $$ [Hst Hargs Hb Hts]
  isplitr; · iexact Hctx
  isplitl [Hst]; · iexact Hst
  isplitl [Hargs]
  · rw [st0_eq]; iexact Hargs
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What device `d`'s memory holds at the end. -/
def fq (d : Dev nD) (s' : Phys nD τ sig (Elt F)) : Prop :=
  s'.mem.mem (xLoc d) = m (xLoc d) ∧ s'.mem.mem (kLoc d) = m (kLoc d) ∧ s'.mem.mem (oLoc d) = result m d

set_option maxRecDepth 16384 in
theorem hfin (d : Dev nD) (s' : Phys nD τ sig (Elt F)) : iprop(FIN m d ∗ SI s') ⊢ (⌜fq m d s'⌝ : sProp 𝕄) := by
  iintro ⟨⟨Hx, Hk, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := kLoc d) (I := Finset.univ) (q := fullShare) (f := m (kLoc d)))) $$ [HSI Hk]
  · isplitl [HSI] <;> iassumption
  icases H with ⟨%hk, HSI, -⟩
  ihave H := (SI_pointsTo_agree (st := s') (ℓ := oLoc d) (I := Finset.univ) (q := fullShare) (f := result m d)) $$ [HSI Ho]
  · isplitl [HSI] <;> iassumption
  icases H with %ho
  ipureintro
  exact ⟨funext fun i => hx i (Finset.mem_univ i), funext fun i => hk i (Finset.mem_univ i), funext fun i => ho i (Finset.mem_univ i)⟩

/-- Every run of the idealized kernel, over any reading of its floats: it ends, on every device, with the two arguments
    as they were, the result holding the rows that the mask selects, and every semaphore counter at zero. -/
theorem run_main [∀ e, Nonempty (Elt F e)] :
    θ_run (Cert.KernelIdeal.defs (F := F)) (Cert.KernelIdeal.threads (F := F)) ⟨m, fun _ => 0, ρ⟩
      (fun r => (∀ c : Dev nD, r.2.mem (xLoc c) = m (xLoc c) ∧ r.2.mem (kLoc c) = m (kLoc c) ∧ r.2.mem (oLoc c) = result m c)
        ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.Pool

end
-- ==== Proof.Reference.lean ====
/-
  What the reference computes, and when it is the pooled array: at a row of the mask whose total is between 1 and 4096
  the reference's index is not wrapped, is in range, and is the position that the total selects.
-/
module

public import proofs.«01_k».proof.Defs
public import proofs.«01_k».proof.Proof.Values
public import proofs.«01_k».proof.Proof.Gen.ReferenceIdeal
public import proofs.«01_k».proof.Proof.Gen.ReferenceIdeal.Run
public import proofs.«01_k».proof.Proof.Gen.Pre_pre
public import Idealize.ShloMosaic.Lib.ReduceAll
public import Idealize.ShloMosaic.Lib.Quiescent
public import Idealize.ShloMosaic.Lib.Pipeline.Value

@[expose] public section

noncomputable section

namespace Cert.Proof.Ref

open Cert.ReferenceIdeal Cert.ReferenceIdeal.Gen
open Cert.Proof.Pool (maskRow word total position position_lt pooled)
open Idealize.ShloMosaic Idealize.ShloMosaic.ValueIdx Idealize.SL.Sem

variable {F : FTy → Type} [FloatOps F]

/-! ## The reference's array, named piece by piece -/

/-- The total of every row of the mask. -/
def rowTotals (mk : IVec S4x4096 32) : IVec S4 32 :=
  Host.reduce IntOp.addi mk (constantI S_ 32 0#32) reducesTo_S4x4096_S4_d1 h_S_

/-- The index of the last marked position of every row: the total less one. -/
def lastPos (mk : IVec S4x4096 32) : IVec S4x1x1 32 :=
  broadcastInDim S4x1x1 ![0, 1] bcast_S4x1_S4x1x1_0_1
    (subi (broadcastInDim S4x1 ![0] bcast_S4_S4x1_0 (rowTotals mk)) (broadcastInDim S4x1 ![] bcast_S_S4x1 (constantI S_ 32 1#32)))

/-- The same, a negative one counted from the end. -/
def startIdx (mk : IVec S4x4096 32) : IVec S4x1x1 32 :=
  select (cmpi .slt (lastPos mk) (broadcastInDim S4x1x1 ![] bcast_S_S4x1x1 (constantI S_ 32 0#32)))
    (addi (lastPos mk) (broadcastInDim S4x1x1 ![] bcast_S_S4x1x1 (constantI S_ 32 4096#32))) (lastPos mk)

/-- Whether it is the index of a row of the input. -/
def inRange (mk : IVec S4x4096 32) : IVec S4x1x1 1 :=
  andi (cmpi .sge (startIdx mk) (broadcastInDim S4x1x1 ![] bcast_S_S4x1x1 (constantI S_ 32 0#32)))
    (cmpi .sle (startIdx mk) (broadcastInDim S4x1x1 ![0, 1, 2] bcast_S1x1x1_S4x1x1_0_1_2 (broadcastInDim S1x1x1 ![2] bcast_S1_S1x1x1_2 (constantI S1 32 4095#32))))

/-- The rows of the input at those indices. -/
def taken (x : FVec F S4x4096x2048 .f32) (mk : IVec S4x4096 32) : FVec F S4x1x2048 .f32 :=
  Host.gather gather_S4x4096x2048_S4x1x1_S4x1x2048_2_1_0_0_1_2_112048 x (startIdx mk)

/-- The reference's result. -/
def refOut (x : FVec F S4x4096x2048 .f32) (mk : IVec S4x4096 32) : FVec F S4x2048 .f32 :=
  shapeCast _ (select (broadcastInDim S4x1x2048 ![0, 1] bcast_S4x1_S4x1x2048_0_1
      (Host.reduce IntOp.andi (inRange mk) (constantI S_ 1 1#1) reducesTo_S4x1x1_S4x1_d2 h_S_))
    (taken x mk) (broadcastInDim S4x1x2048 ![] bcast_S_S4x1x2048 (constant S_ .f32 0x7FC00000#32))) shapeCasts_S4x1x2048_S4x2048

/-! ## The pieces at an index -/

/-- The host's sum along a row is the row's total. -/
theorem rowTotals_apply (mk : IVec S4x4096 32) (b : Fin 4) : rowTotals mk (ix1 b) = total (maskRow mk b) := by
  have hr : S4x4096.Reduces [1] S4 := by decide
  unfold rowTotals
  rw [Host.reduce_eq_fold_single IntOp.addi mk _ reducesTo_S4x4096_S4_d1 hr h_S_]
  show ∑ k : Fin 4096, mk (hr.lift (ix1 b) k) = total (maskRow mk b)
  unfold total
  rw [← Fin.sum_univ_eq_sum_range (word (maskRow mk b)) 4096]
  refine Finset.sum_congr rfl fun k _ => ?_
  unfold word
  rw [dif_pos k.isLt]
  refine congrArg mk (funext fun a => Fin.ext ?_)
  match a with
  | ⟨0, _⟩ => rfl
  | ⟨1, _⟩ => rfl

theorem lastPos_apply (mk : IVec S4x4096 32) (b : Fin 4) : lastPos mk (ix3 b 0 0) = total (maskRow mk b) - 1#32 := by
  rw [← rowTotals_apply]
  refine congrArg (fun i => rowTotals mk i - 1#32) (funext fun a => ?_)
  match a with
  | ⟨0, _⟩ => rfl

/-- A total between 1 and 4096, signed. -/
def InBounds (w : BitVec 32) : Prop := 1 ≤ w.toInt ∧ w.toInt ≤ 4096

/-- Such a total less one is a row number, and is the position it selects. -/
theorem InBounds.facts {w : BitVec 32} (h : InBounds w) :
    (w - 1#32).toInt.toNat = (position w).toNat ∧ 0 ≤ (w - 1#32).toInt ∧ (w - 1#32).toInt ≤ 4095 := by
  obtain ⟨h1, h2⟩ := h
  have hw : w.toNat < 2 ^ 32 := w.isLt
  have hn : w.toInt = w.toNat := by rw [BitVec.toInt_eq_toNat_cond] at h1 h2 ⊢; split_ifs at h1 h2 ⊢ <;> omega
  have hs : (w - 1#32).toNat = w.toNat - 1 := by rw [BitVec.toNat_sub]; simp only [BitVec.toNat_ofNat]; omega
  have hi : (w - 1#32).toInt = ((w.toNat - 1 : ℕ) : ℤ) := by rw [BitVec.toInt_eq_toNat_cond, hs, if_pos (by omega)]
  have hp : position w = w - 1#32 := by
    show IntOp.minsi 4095#32 (IntOp.maxsi 0#32 (w - 1#32)) = w - 1#32
    have e0 : (0#32 : BitVec 32).toInt = 0 := by decide
    have e1 : (4095#32 : BitVec 32).toInt = 4095 := by decide
    simp only [IntOp.minsi, IntOp.maxsi, BitVec.slt_eq_decide, BitVec.sle_eq_decide, decide_eq_true_eq]
    split_ifs <;> first | rfl | (apply BitVec.eq_of_toInt_eq; omega)
  rw [hp, hi, hs]
  omega

variable {mk : IVec S4x4096 32} (hmk : ∀ b : Fin 4, InBounds (total (maskRow mk b)))

include hmk

/-- The index is not negative, so it is not wrapped. -/
theorem startIdx_apply (b : Fin 4) : startIdx mk (ix3 b 0 0) = total (maskRow mk b) - 1#32 := by
  have h := (hmk b).facts
  show Scalar.select (IntOp.cmpi .slt (lastPos mk (ix3 b 0 0)) 0#32) (IntOp.addi (lastPos mk (ix3 b 0 0)) 4096#32) (lastPos mk (ix3 b 0 0)) = _
  rw [lastPos_apply]
  rw [show IntOp.cmpi .slt (total (maskRow mk b) - 1#32) 0#32 = 0#1 from by
    simp only [IntOp.cmpi, BitVec.slt_eq_decide]
    rw [decide_eq_false (by show ¬ _ < (0 : ℤ); omega)]; rfl]
  rfl

/-- The index is a row of the input. -/
theorem inRange_apply (i : S4x1x1.Idx) : inRange mk i = 1#1 := by
  obtain ⟨b, rfl⟩ : ∃ b : Fin 4, i = ix3 b 0 0 := ⟨i 0, funext fun a => by
    match a with
    | ⟨0, _⟩ => rfl
    | ⟨1, _⟩ => exact Subsingleton.elim (α := Fin 1) _ _
    | ⟨2, _⟩ => exact Subsingleton.elim (α := Fin 1) _ _⟩
  have h := (hmk b).facts
  show IntOp.andi (IntOp.cmpi .sge (startIdx mk (ix3 b 0 0)) 0#32) (IntOp.cmpi .sle (startIdx mk (ix3 b 0 0)) 4095#32) = 1#1
  rw [startIdx_apply hmk]
  simp only [IntOp.cmpi, BitVec.sle_eq_decide]
  rw [decide_eq_true (by show (0 : ℤ) ≤ _; omega), decide_eq_true (by show _ ≤ (4095 : ℤ); omega)]
  rfl

/-- The gathered array at `(b, 0, c)` is the input at batch `b`, at the selected position, column `c`. -/
theorem taken_apply (x : FVec F S4x4096x2048 .f32) (b : Fin 4) (c : Fin 2048) :
    taken x mk (ix3 b 0 c) = x (ix3 b ⟨(position (total (maskRow mk b))).toNat, position_lt _⟩ c) := by
  have h := (hmk b).facts
  unfold taken Host.gather
  refine congrArg x (funext fun a => Fin.ext ?_)
  set g := gather_S4x4096x2048_S4x1x1_S4x1x2048_2_1_0_0_1_2_112048 with hg
  show g.start (ix3 b 0 c) (startIdx mk) a + g.batchCoord (ix3 b 0 c) a + g.offCoord (ix3 b 0 c) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [g.start_batching _ _ 0 (List.mem_singleton.mpr rfl), g.offCoord_eq_zero _ 0 (fun hk => ((g.mem_sKept 0).mp hk).2 (List.mem_singleton.mpr rfl))]
    show 0 + b.val + 0 = b.val
    omega
  · rw [g.batchCoord_eq_zero _ 1 (by decide), g.offCoord_eq_zero _ 1 (fun hk => ((g.mem_sKept 1).mp hk).1 (List.mem_singleton.mpr rfl))]
    have hs : g.siIdx (ix3 b 0 c) ⟨List.idxOf (1 : Fin 3) g.startIndexMap, List.idxOf_lt_length_iff.2 (List.mem_singleton.mpr rfl)⟩ = ix3 b 0 0 := by
      funext e
      match e with
      | ⟨0, _⟩ => rfl
      | ⟨1, _⟩ => rfl
      | ⟨2, _⟩ => rfl
    unfold GatherDims.start
    rw [dif_pos (show (1 : Fin 3) ∈ g.startIndexMap from List.mem_singleton.mpr rfl), hs, startIdx_apply hmk]
    have hz : S4x4096x2048.size 1 - g.sliceSizes 1 = 4095 := rfl
    have hp : ∀ p : Fin 4096, (ix3 b p c 1).val = p.val := fun _ => rfl
    rw [hz, hp]
    dsimp only
    omega
  · rw [g.batchCoord_eq_zero _ 2 (by decide)]
    unfold GatherDims.start
    rw [dif_neg (by decide)]
    show 0 + 0 + c.val = c.val
    omega

/-- When every row's total is between 1 and 4096 the reference's result is the pooled array. -/
theorem refOut_eq (x : FVec F S4x4096x2048 .f32) : refOut x mk = pooled x mk := by
  funext j
  unfold refOut
  refine (shapeCast_apply (s := S4x1x2048) _ _ j (ix3 ⟨(j 0).val, (j 0).isLt⟩ 0 ⟨(j 1).val, (j 1).isLt⟩) (by
    rw [Shape.rowMajor_val_three, Shape.rowMajor_val_two]
    show ((j 0).val * 1 + 0) * 2048 + (j 1).val = (j 0).val * 2048 + (j 1).val
    omega)).trans ?_
  show Scalar.select (Host.reduce IntOp.andi (inRange mk) (constantI S_ 1 1#1) reducesTo_S4x1x1_S4x1_d2 h_S_ _) (taken x mk _) _ = _
  rw [Host.reduce_andi_one _ _ _ _ _ rfl (inRange_apply hmk)]
  exact taken_apply hmk x _ _

omit hmk

/-! ## The precondition and the run -/

/-- The precondition says that every row's total is between 1 and 4096. -/
theorem inBounds_of_pre (x : FVec F S4x4096x2048 .f32) (h : Cert.Pre_pre.fn (F := F) x mk = fun _ => 1#1) (b : Fin 4) :
    InBounds (total (maskRow mk b)) := by
  have hb : IntOp.andi (IntOp.cmpi .sge (rowTotals mk (ix1 b)) 1#32) (IntOp.cmpi .sle (rowTotals mk (ix1 b)) 4096#32) = 1#1 :=
    haveI : Subsingleton Cert.Pre_pre.S_.Idx := ⟨fun _ _ => funext fun a => a.elim0⟩
    Host.reduce_andi_all _ _ _ _ ix0 (congrFun h ix0) (ix1 b)
  rw [rowTotals_apply] at hb
  obtain ⟨h1, h2⟩ := IntOp.andi_eq_one.1 hb
  have bit : ∀ p : Bool, BitVec.ofBool p = 1#1 → p = true := by decide
  have e1 : (1#32).sle (total (maskRow mk b)) = true := bit _ h1
  have e2 : (total (maskRow mk b)).sle 4096#32 = true := bit _ h2
  rw [BitVec.sle_eq_decide, decide_eq_true_eq] at e1 e2
  exact ⟨e1, e2⟩

/-- Every run of the reference ends with its result at `refOut` of the arguments and the arguments as they were. -/
theorem run_main (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v6) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.Ref

end
-- ==== Proof.lean ====
/-
  The claim, assembled: the kernel as printed and its idealization run, leave the arguments alone and end with every
  semaphore at zero; so does the reference; no operation was replaced; and over the reals, where every row of the mask
  has a total between 1 and 4096, the kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_pre
public import proofs.«01_k».proof.Proof.Launch
public import proofs.«01_k».proof.Proof.Reference
public import Idealize.ShloMosaic.Adequacy
public import Idealize.ShloMosaic.Init

@[expose] public section

noncomputable section

namespace Cert.Proof

open Idealize.ShloMosaic Idealize.SL.Sem

/-- The kernel as printed: its text is the idealization's, so its run is that one read at its own floats. -/
theorem frame_kernel : Cert.quiescent_Kernel := fun m ρ _ =>
  (θ_run Cert.KernelIdeal.defs _ _).mono (fun _ h => ⟨fun c => ⟨(h.1 c).1, (h.1 c).2.1⟩, h.2⟩) (Pool.run_main (F := Bits) m ρ)

/-- The idealized kernel, from any memory. -/
theorem frame_ideal : Cert.quiescent_KernelIdeal := fun m ρ _ =>
  (θ_run Cert.KernelIdeal.defs _ _).mono (fun _ h => ⟨fun c => ⟨(h.1 c).1, (h.1 c).2.1⟩, h.2⟩) (Pool.run_main (F := Ideal) m ρ)

/-- The reference, from any memory. -/
theorem frame_ref : Cert.quiescent_ReferenceIdeal := fun m ρ _ =>
  (θ_run Cert.ReferenceIdeal.defs _ _).mono
    (fun r h => ⟨fun c => (h c).2, sem_eq_zero_of_no_sems (by decide) r.2⟩) (Ref.run_main (F := Ideal) m ρ)

/-- From memories that agree on the arguments, and a mask whose rows' totals are between 1 and 4096, the idealized kernel
    and the reference both end with the pooled rows in their results. -/
theorem value : Cert.algebraic_KernelIdeal_ReferenceIdeal_pre_pre := fun m ρ m' ρ' hpre hagree =>
  ⟨fun c => Pool.result m c,
    (θ_run Cert.KernelIdeal.defs _ _).mono (fun _ h c => ⟨(h.1 c).2.2, (h.1 c).1, (h.1 c).2.1⟩) (Pool.run_main (F := Ideal) m ρ),
    (θ_run Cert.ReferenceIdeal.defs _ _).mono
      (fun _ h c => ⟨(h c).1.trans (by
          rw [(hagree c).1, (hagree c).2]
          exact Ref.refOut_eq (Ref.inBounds_of_pre _ (hpre c)) _), (h c).2⟩)
      (Ref.run_main (F := Ideal) m' ρ')⟩

theorem claim : Cert.Claim := ⟨Cert.Kernel.Gen.facts, Cert.KernelIdeal.Gen.facts, Cert.ReferenceIdeal.Gen.facts, Cert.Pre_pre.Gen.facts,
  frame_kernel, frame_ideal, fun m ρ _ => frame_ideal m ρ trivial, frame_ref, fun m ρ _ => frame_ref m ρ trivial, trivial, value⟩

end Cert.Proof

end
